-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Graph (m : (ℓ : Loc Cert.Graph.nD Cert.Graph.τ Cert.Graph.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Graph [hGraph : Cert.Graph.Facts] : Prop :=
  ∀ (m : (ℓ : Loc Cert.Graph.nD Cert.Graph.τ Cert.Graph.sig) → Buf (Elt Bits) ℓ) (g : Dev Cert.Graph.nD → PrngReg), Pre_Graph m →
    θ_run (Cert.Graph.defs (F := Bits)) (onTc (τ := Cert.Graph.τ) (Cert.Graph.main (F := Bits))) ⟨m, fun _ => 0, g⟩ (fun r => (∀ c : Dev Cert.Graph.nD,
      r.2.mem ((c.tc : Thread Cert.Graph.nD Cert.Graph.τ).loc Cert.Graph.main_arg0) = m ((c.tc : Thread Cert.Graph.nD Cert.Graph.τ).loc Cert.Graph.main_arg0)
      ∧ r.2.mem ((c.tc : Thread Cert.Graph.nD Cert.Graph.τ).loc Cert.Graph.main_arg1) = m ((c.tc : Thread Cert.Graph.nD Cert.Graph.τ).loc Cert.Graph.main_arg1)
      ∧ r.2.mem ((c.tc : Thread Cert.Graph.nD Cert.Graph.τ).loc Cert.Graph.main_arg2) = m ((c.tc : Thread Cert.Graph.nD Cert.Graph.τ).loc Cert.Graph.main_arg2)
      ∧ r.2.mem ((c.tc : Thread Cert.Graph.nD Cert.Graph.τ).loc Cert.Graph.main_arg3) = m ((c.tc : Thread Cert.Graph.nD Cert.Graph.τ).loc Cert.Graph.main_arg3)
      ∧ r.2.mem ((c.tc : Thread Cert.Graph.nD Cert.Graph.τ).loc Cert.Graph.main_arg4) = m ((c.tc : Thread Cert.Graph.nD Cert.Graph.τ).loc Cert.Graph.main_arg4)
      ∧ r.2.mem ((c.tc : Thread Cert.Graph.nD Cert.Graph.τ).loc Cert.Graph.main_arg5) = m ((c.tc : Thread Cert.Graph.nD Cert.Graph.τ).loc Cert.Graph.main_arg5)
      ∧ r.2.mem ((c.tc : Thread Cert.Graph.nD Cert.Graph.τ).loc Cert.Graph.main_arg6) = m ((c.tc : Thread Cert.Graph.nD Cert.Graph.τ).loc Cert.Graph.main_arg6)
      ∧ r.2.mem ((c.tc : Thread Cert.Graph.nD Cert.Graph.τ).loc Cert.Graph.main_arg7) = m ((c.tc : Thread Cert.Graph.nD Cert.Graph.τ).loc Cert.Graph.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hGraph : Cert.Graph.Facts),
    quiescent_Kernel (hKernel := hKernel)
    ∧ quiescent_KernelIdeal (hKernelIdeal := hKernelIdeal)
    ∧ quiescent_ReferenceIdeal (hReferenceIdeal := hReferenceIdeal)
    ∧ quiescent_Graph (hGraph := hGraph)
    ∧ preserves_Kernel_KernelIdeal
    ∧ algebraic_KernelIdeal_ReferenceIdeal (hKernelIdeal := hKernelIdeal) (hReferenceIdeal := hReferenceIdeal)
-- ==== Kernel.lean ====
abbrev S1024x1152 : Shape := ⟨2, ![1024, 1152]⟩
abbrev S1024 : Shape := ⟨1, ![1024]⟩
abbrev S4096x1152 : Shape := ⟨2, ![4096, 1152]⟩
abbrev S4096 : Shape := ⟨1, ![4096]⟩
abbrev S1024x4096 : Shape := ⟨2, ![1024, 4096]⟩
abbrev S1x1024 : Shape := ⟨2, ![1, 1024]⟩
abbrev S1x4096 : Shape := ⟨2, ![1, 4096]⟩
abbrev S256x1152 : Shape := ⟨2, ![256, 1152]⟩
abbrev S1x256 : Shape := ⟨2, ![1, 256]⟩
abbrev S1024x256 : Shape := ⟨2, ![1024, 256]⟩
abbrev S1024x128 : Shape := ⟨2, ![1024, 128]⟩
abbrev S128x1024 : Shape := ⟨2, ![128, 1024]⟩
abbrev S1x128 : Shape := ⟨2, ![1, 128]⟩

abbrev nBuf : Space → Nat
  | .hbm => 11
  | .vmem => 16
  | .smem => 0
  | _ => 0

abbrev bufTy : (tb : Table) → Fin (tcTables nBuf tb) → BufTy
  | .hbm, ⟨0, _⟩ => ⟨S1024x1152, .fp8e5m2⟩
  | .hbm, ⟨1, _⟩ => ⟨S1024, .f32⟩
  | .hbm, ⟨2, _⟩ => ⟨S4096x1152, .fp8e4m3⟩
  | .hbm, ⟨3, _⟩ => ⟨S4096, .f32⟩
  | .hbm, ⟨4, _⟩ => ⟨S1024x4096, .fp8e4m3⟩
  | .hbm, ⟨5, _⟩ => ⟨S1024, .f32⟩
  | .hbm, ⟨6, _⟩ => ⟨S1x1024, .f32⟩
  | .hbm, ⟨7, _⟩ => ⟨S1x4096, .f32⟩
  | .hbm, ⟨8, _⟩ => ⟨S1x1024, .f32⟩
  | .hbm, ⟨9, _⟩ => ⟨S1024x4096, .bf16⟩
  | .hbm, ⟨10, _⟩ => ⟨S4096x1152, .f32⟩
  | .local _ .vmem, ⟨0, _⟩ => ⟨S1024x1152, .fp8e5m2⟩
  | .local _ .vmem, ⟨1, _⟩ => ⟨S1x1024, .f32⟩
  | .local _ .vmem, ⟨2, _⟩ => ⟨S256x1152, .fp8e4m3⟩
  | .local _ .vmem, ⟨3, _⟩ => ⟨S256x1152, .fp8e4m3⟩
  | .local _ .vmem, ⟨4, _⟩ => ⟨S1x256, .f32⟩
  | .local _ .vmem, ⟨5, _⟩ => ⟨S1x256, .f32⟩
  | .local _ .vmem, ⟨6, _⟩ => ⟨S1024x256, .fp8e4m3⟩
  | .local _ .vmem, ⟨7, _⟩ => ⟨S1024x256, .fp8e4m3⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S256x1152, .f32⟩
  | .local _ .vmem, ⟨12, _⟩ => ⟨S256x1152, .f32⟩
  | .local _ .vmem, ⟨13, _⟩ => ⟨S1024x1152, .bf16⟩
  | .local _ .vmem, ⟨14, _⟩ => ⟨S1024x128, .f32⟩
  | .local _ .vmem, ⟨15, _⟩ => ⟨S1024x128, .bf16⟩
  | _, _ => ⟨S1024x1152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1152 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x1152 : Shape := ⟨2, ![1024, 1152]⟩
abbrev S1024 : Shape := ⟨1, ![1024]⟩
abbrev S4096x1152 : Shape := ⟨2, ![4096, 1152]⟩
abbrev S4096 : Shape := ⟨1, ![4096]⟩
abbrev S1024x4096 : Shape := ⟨2, ![1024, 4096]⟩
abbrev S1024x1 : Shape := ⟨2, ![1024, 1]⟩
abbrev S1x4096 : Shape := ⟨2, ![1, 4096]⟩

abbrev nBuf : Space → Nat
  | .hbm => 11
  | .vmem => 8
  | .smem => 0
  | _ => 0

abbrev bufTy : (tb : Table) → Fin (tcTables nBuf tb) → BufTy
  | .hbm, ⟨0, _⟩ => ⟨S1024x1152, .fp8e5m2⟩
  | .hbm, ⟨1, _⟩ => ⟨S1024, .f32⟩
  | .hbm, ⟨2, _⟩ => ⟨S4096x1152, .fp8e4m3⟩
  | .hbm, ⟨3, _⟩ => ⟨S4096, .f32⟩
  | .hbm, ⟨4, _⟩ => ⟨S1024x4096, .fp8e4m3⟩
  | .hbm, ⟨5, _⟩ => ⟨S1024, .f32⟩
  | .hbm, ⟨6, _⟩ => ⟨S1024x1, .f32⟩
  | .hbm, ⟨7, _⟩ => ⟨S1x4096, .f32⟩
  | .hbm, ⟨8, _⟩ => ⟨S1024x1, .f32⟩
  | .hbm, ⟨9, _⟩ => ⟨S1024x4096, .bf16⟩
  | .hbm, ⟨10, _⟩ => ⟨S4096x1152, .f32⟩
  | .local _ .vmem, ⟨0, _⟩ => ⟨S1024x1152, .fp8e5m2⟩
  | .local _ .vmem, ⟨1, _⟩ => ⟨S1024x1, .f32⟩
  | .local _ .vmem, ⟨2, _⟩ => ⟨S4096x1152, .fp8e4m3⟩
  | .local _ .vmem, ⟨3, _⟩ => ⟨S1x4096, .f32⟩
  | .local _ .vmem, ⟨4, _⟩ => ⟨S1024x4096, .fp8e4m3⟩
  | .local _ .vmem, ⟨5, _⟩ => ⟨S1024x1, .f32⟩
  | .local _ .vmem, ⟨6, _⟩ => ⟨S1024x4096, .bf16⟩
  | .local _ .vmem, ⟨7, _⟩ => ⟨S4096x1152, .f32⟩
  | _, _ => ⟨S1024x1152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x1152 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Graph.lean ====
abbrev S1024x12x96 : Shape := ⟨3, ![1024, 12, 96]⟩
abbrev S1024x12 : Shape := ⟨2, ![1024, 12]⟩
abbrev S12x96 : Shape := ⟨2, ![12, 96]⟩
abbrev S1025 : Shape := ⟨1, ![1025]⟩
abbrev S16384 : Shape := ⟨1, ![16384]⟩
abbrev S12x96x1024 : Shape := ⟨3, ![12, 96, 1024]⟩
abbrev S12x1024 : Shape := ⟨2, ![12, 1024]⟩
abbrev S128x128 : Shape := ⟨2, ![128, 128]⟩
abbrev S1024x1152 : Shape := ⟨2, ![1024, 1152]⟩
abbrev S1x1024 : Shape := ⟨2, ![1, 1024]⟩
abbrev S12x16384 : Shape := ⟨2, ![12, 16384]⟩
abbrev S1024 : Shape := ⟨1, ![1024]⟩
abbrev S32x128 : Shape := ⟨2, ![32, 128]⟩
abbrev S12x96x256 : Shape := ⟨3, ![12, 96, 256]⟩
abbrev S12x256 : Shape := ⟨2, ![12, 256]⟩
abbrev S256x1152 : Shape := ⟨2, ![256, 1152]⟩
abbrev S1x256 : Shape := ⟨2, ![1, 256]⟩
abbrev S12x4096 : Shape := ⟨2, ![12, 4096]⟩
abbrev S256x256 : Shape := ⟨2, ![256, 256]⟩
abbrev S16x256 : Shape := ⟨2, ![16, 256]⟩
abbrev S256x16 : Shape := ⟨2, ![256, 16]⟩
abbrev S3x256x256 : Shape := ⟨3, ![3, 256, 256]⟩
abbrev S2x4096x128 : Shape := ⟨3, ![2, 4096, 128]⟩
abbrev S1152x256 : Shape := ⟨2, ![1152, 256]⟩
abbrev S256 : Shape := ⟨1, ![256]⟩
abbrev S2x128 : Shape := ⟨2, ![2, 128]⟩
abbrev S256x128 : Shape := ⟨2, ![256, 128]⟩
abbrev S1x128 : Shape := ⟨2, ![1, 128]⟩
abbrev S1x96 : Shape := ⟨2, ![1, 96]⟩
abbrev S2x96 : Shape := ⟨2, ![2, 96]⟩
abbrev S8x96 : Shape := ⟨2, ![8, 96]⟩
abbrev S1x96x256 : Shape := ⟨3, ![1, 96, 256]⟩
abbrev S96x256 : Shape := ⟨2, ![96, 256]⟩
abbrev S8x256 : Shape := ⟨2, ![8, 256]⟩
abbrev S4x256 : Shape := ⟨2, ![4, 256]⟩
abbrev S32x1 : Shape := ⟨2, ![32, 1]⟩
abbrev S32x256 : Shape := ⟨2, ![32, 256]⟩
abbrev S4x8x256 : Shape := ⟨3, ![4, 8, 256]⟩
abbrev S1x32x256 : Shape := ⟨3, ![1, 32, 256]⟩
abbrev S32 : Shape := ⟨1, ![32]⟩
abbrev S1x256x128 : Shape := ⟨3, ![1, 256, 128]⟩
abbrev S1x256x256 : Shape := ⟨3, ![1, 256, 256]⟩
abbrev S16x128 : Shape := ⟨2, ![16, 128]⟩
abbrev S1 : Shape := ⟨1, ![1]⟩
abbrev S1x16x128 : Shape := ⟨3, ![1, 16, 128]⟩
abbrev S16x128x1 : Shape := ⟨3, ![16, 128, 1]⟩
abbrev S12x128 : Shape := ⟨2, ![12, 128]⟩
abbrev S2x256 : Shape := ⟨2, ![2, 256]⟩
abbrev S4x96 : Shape := ⟨2, ![4, 96]⟩
abbrev S16x96 : Shape := ⟨2, ![16, 96]⟩
abbrev S96x16 : Shape := ⟨2, ![96, 16]⟩
abbrev S96x1 : Shape := ⟨2, ![96, 1]⟩
abbrev S128x256 : Shape := ⟨2, ![128, 256]⟩
abbrev S16384x12 : Shape := ⟨2, ![16384, 12]⟩

abbrev nBuf : Space → Nat
  | .hbm => 20
  | .vmem => 35
  | .smem => 1
  | _ => 0

abbrev bufTy : (tb : Table) → Fin (tcTables nBuf tb) → BufTy
  | .hbm, ⟨0, _⟩ => ⟨S1024x12x96, .fp8e4m3⟩
  | .hbm, ⟨1, _⟩ => ⟨S1024x12, .f32⟩
  | .hbm, ⟨2, _⟩ => ⟨S1024x12x96, .fp8e5m2⟩
  | .hbm, ⟨3, _⟩ => ⟨S1024x12, .f32⟩
  | .hbm, ⟨4, _⟩ => ⟨S12x96, .f32⟩
  | .hbm, ⟨5, _⟩ => ⟨S12x96, .f32⟩
  | .hbm, ⟨6, _⟩ => ⟨S1025, .i32⟩
  | .hbm, ⟨7, _⟩ => ⟨S16384, .i32⟩
  | .hbm, ⟨8, _⟩ => ⟨S12x96x1024, .fp8e4m3⟩
  | .hbm, ⟨9, _⟩ => ⟨S12x96x1024, .fp8e5m2⟩
  | .hbm, ⟨10, _⟩ => ⟨S12x1024, .f32⟩
  | .hbm, ⟨11, _⟩ => ⟨S12x1024, .f32⟩
  | .hbm, ⟨12, _⟩ => ⟨S128x128, .i32⟩
  | .hbm, ⟨13, _⟩ => ⟨S1024x1152, .fp8e5m2⟩
  | .hbm, ⟨14, _⟩ => ⟨S1x1024, .f32⟩
  | .hbm, ⟨15, _⟩ => ⟨S12x16384, .f32⟩
  | .hbm, ⟨16, _⟩ => ⟨S12x96, .f32⟩
  | .hbm, ⟨17, _⟩ => ⟨S12x96, .f32⟩
  | .hbm, ⟨18, _⟩ => ⟨S16384x12, .f32⟩
  | .hbm, ⟨19, _⟩ => ⟨S1024, .f32⟩
  | .local _ .vmem, ⟨0, _⟩ => ⟨S1024, .i32⟩
  | .local _ .vmem, ⟨1, _⟩ => ⟨S32x128, .i32⟩
  | .local _ .vmem, ⟨2, _⟩ => ⟨S32x128, .i32⟩
  | .local _ .vmem, ⟨3, _⟩ => ⟨S12x96x256, .fp8e4m3⟩
  | .local _ .vmem, ⟨4, _⟩ => ⟨S12x96x256, .fp8e4m3⟩
  | .local _ .vmem, ⟨5, _⟩ => ⟨S12x96x256, .fp8e5m2⟩
  | .local _ .vmem, ⟨6, _⟩ => ⟨S12x96x256, .fp8e5m2⟩
  | .local _ .vmem, ⟨7, _⟩ => ⟨S12x256, .f32⟩
  | .local _ .vmem, ⟨8, _⟩ => ⟨S12x256, .f32⟩
  | .local _ .vmem, ⟨9, _⟩ => ⟨S12x256, .f32⟩
  | .local _ .vmem, ⟨10, _⟩ => ⟨S12x256, .f32⟩
  | .local _ .vmem, ⟨11, _⟩ => ⟨S12x96, .f32⟩
  | .local _ .vmem, ⟨12, _⟩ => ⟨S12x96, .f32⟩
  | .local _ .vmem, ⟨13, _⟩ => ⟨S256x1152, .fp8e5m2⟩
  | .local _ .vmem, ⟨14, _⟩ => ⟨S256x1152, .fp8e5m2⟩
  | .local _ .vmem, ⟨15, _⟩ => ⟨S1x256, .f32⟩
  | .local _ .vmem, ⟨16, _⟩ => ⟨S1x256, .f32⟩
  | .local _ .vmem, ⟨17, _⟩ => ⟨S12x4096, .f32⟩
  | .local _ .vmem, ⟨18, _⟩ => ⟨S12x4096, .f32⟩
  | .local _ .vmem, ⟨19, _⟩ => ⟨S12x96, .f32⟩
  | .local _ .vmem, ⟨20, _⟩ => ⟨S12x96, .f32⟩
  | .local _ .vmem, ⟨21, _⟩ => ⟨S256x256, .f32⟩
  | .local _ .vmem, ⟨22, _⟩ => ⟨S256x256, .f32⟩
  | .local _ .vmem, ⟨23, _⟩ => ⟨S16x256, .f32⟩
  | .local _ .vmem, ⟨24, _⟩ => ⟨S16x256, .f32⟩
  | .local _ .vmem, ⟨25, _⟩ => ⟨S256x16, .f32⟩
  | .local _ .vmem, ⟨26, _⟩ => ⟨S256x16, .f32⟩
  | .local _ .vmem, ⟨27, _⟩ => ⟨S256x256, .f32⟩
  | .local _ .vmem, ⟨28, _⟩ => ⟨S256x256, .f32⟩
  | .local _ .vmem, ⟨29, _⟩ => ⟨S3x256x256, .bf16⟩
  | .local _ .vmem, ⟨30, _⟩ => ⟨S256x256, .f32⟩
  | .local _ .vmem, ⟨31, _⟩ => ⟨S2x4096x128, .f32⟩
  | .local _ .vmem, ⟨32, _⟩ => ⟨S256x16, .f32⟩
  | .local _ .vmem, ⟨33, _⟩ => ⟨S16x256, .f32⟩
  | .local _ .vmem, ⟨34, _⟩ => ⟨S1152x256, .f32⟩
  | .local _ .smem, ⟨0, _⟩ => ⟨S1025, .i32⟩
  | _, _ => ⟨S1024x12x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6 : Ref sig .tc := ⟨.hbm, 18, rfl⟩
abbrev main_v7 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_scratch13 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [BitOps F]

abbrev grid0 : Pipeline.Grid := ⟨1, ![4], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 1 → Nat :=
  let arg0 : BitVec 32 := BitVec.ofNat 32 (i 0).val
  let c256_i32 : BitVec 32 := 256#32
  let v0 : BitVec 32 := Scalar.muli arg0 c256_i32
  let v2 : BitVec 32 := v0
  let v3 : Index := Scalar.indexCast v2
  ![v3.toNat]
@[reducible] def k0_t1_loop : Scf.Loop 32 :=
  let c0_i32_5116 : BitVec 32 := 0#32
  let c256_i32_5117 : BitVec 32 := 256#32
  let v10809 : BitVec 32 := Scalar.addi c0_i32_5116 c256_i32_5117
  let c1_i32 : BitVec 32 := 1#32
  ⟨c0_i32_5116, v10809, c1_i32⟩
def k0_off2 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_5116 : BitVec 32 := 0#32
  let c1_i32 : BitVec 32 := 1#32
  let arg29 : BitVec 32 := Scf.iv c0_i32_5116 c1_i32 k0_t1
  let v11834 : BitVec 32 := Scalar.addi v0 arg29
  let v11835 : Index := Scalar.indexCast v11834
  ![v11835.toNat]
def k0_off3 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_5116 : BitVec 32 := 0#32
  let c1_i32 : BitVec 32 := 1#32
  let arg29 : BitVec 32 := Scf.iv c0_i32_5116 c1_i32 k0_t1
  let v11838 : BitVec 32 := Scalar.addi v0 arg29
  let c1_i32_5546 : BitVec 32 := 1#32
  let v11839 : BitVec 32 := Scalar.addi v11838 c1_i32_5546
  let v11840 : Index := Scalar.indexCast v11839
  ![v11840.toNat]
def k0_off4 (i : grid0.Coords) (v11836 : BitVec 32) : Fin 2 → Nat :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c31_i32 : BitVec 32 := 31#32
  let v11844 : BitVec 32 := Scalar.minsi v11843 c31_i32
  let v11845 : Index := Scalar.indexCast v11844
  let c0_5547 : Index := 0#32
  ![v11845.toNat, 0]

def k0_mult2 (k0_t1 : Fin k0_t1_loop.trips) : BitVec 32 :=
  let c0_i32_5116 : BitVec 32 := 0#32
  let c1_i32 : BitVec 32 := 1#32
  let arg29 : BitVec 32 := Scf.iv c0_i32_5116 c1_i32 k0_t1
  let c16_i32 : BitVec 32 := 16#32
  let v11854 : BitVec 32 := Scalar.muli arg29 c16_i32
  v11854
def k0_off5 (k0_t1 : Fin k0_t1_loop.trips) : Fin 3 → Nat :=
  let c0_5549 : Index := 0#32
  let c0_i32_5116 : BitVec 32 := 0#32
  let c1_i32 : BitVec 32 := 1#32
  let arg29 : BitVec 32 := Scf.iv c0_i32_5116 c1_i32 k0_t1
  let c16_i32 : BitVec 32 := 16#32
  let v11854 : BitVec 32 := Scalar.muli arg29 c16_i32
  let v11855 : BitVec 32 := v11854
  let v11856 : Index := Scalar.indexCast v11855
  let c0_5550 : Index := 0#32
  ![0, v11856.toNat, 0]
def k0_off6 (k0_t1 : Fin k0_t1_loop.trips) : Fin 3 → Nat :=
  let c1_5552 : Index := 1#32
  let c0_i32_5116 : BitVec 32 := 0#32
  let c1_i32 : BitVec 32 := 1#32
  let arg29 : BitVec 32 := Scf.iv c0_i32_5116 c1_i32 k0_t1
  let c16_i32 : BitVec 32 := 16#32
  let v11854 : BitVec 32 := Scalar.muli arg29 c16_i32
  let v11855 : BitVec 32 := v11854
  let v11867 : Index := Scalar.indexCast v11855
  let c0_5553 : Index := 0#32
  ![1, v11867.toNat, 0]
def k0_mult3 (i : grid0.Coords) (v11836 : BitVec 32) : BitVec 32 :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c31_i32 : BitVec 32 := 31#32
  let v11844 : BitVec 32 := Scalar.minsi v11843 c31_i32
  let c128_i32_5558 : BitVec 32 := 128#32
  let v11889 : BitVec 32 := Scalar.muli v11844 c128_i32_5558
  v11889
def k0_off7 (i : grid0.Coords) (v11836 : BitVec 32) : Fin 2 → Nat :=
  let c0_5559 : Index := 0#32
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c31_i32 : BitVec 32 := 31#32
  let v11844 : BitVec 32 := Scalar.minsi v11843 c31_i32
  let c128_i32_5558 : BitVec 32 := 128#32
  let v11889 : BitVec 32 := Scalar.muli v11844 c128_i32_5558
  let v11890 : BitVec 32 := v11889
  let v11893 : Index := Scalar.indexCast v11890
  ![0, v11893.toNat]

def k0_chk1 (i : grid0.Coords) (v11836 : BitVec 32) : Prop :=
  (∀ a, (k0_off4 i v11836) a + S1x128.size a ≤ S32x128.size a) ∧
  (128 ∣ (k0_mult3 i v11836).toNat) ∧
  (∀ a, (k0_off7 i v11836) a + S12x128.size a ≤ S12x4096.size a)
theorem k0_off4_inb : ∀ (i : grid0.Coords) (v11836 : BitVec 32) (k0_hw1 : k0_chk1 i v11836), ∀ a, (k0_off4 i v11836) a + S1x128.size a ≤ S32x128.size a := fun i v11836 k0_hw1 => k0_hw1.1
theorem k0_mult3_dvd : ∀ (i : grid0.Coords) (v11836 : BitVec 32) (k0_hw1 : k0_chk1 i v11836), 128 ∣ (k0_mult3 i v11836).toNat := fun i v11836 k0_hw1 => k0_hw1.2.1
theorem k0_off7_inb : ∀ (i : grid0.Coords) (v11836 : BitVec 32) (k0_hw1 : k0_chk1 i v11836), ∀ a, (k0_off7 i v11836) a + S12x128.size a ≤ S12x4096.size a := fun i v11836 k0_hw1 => k0_hw1.2.2

@[reducible] def k0_t2_loop (i : grid0.Coords) (v11836 : BitVec 32) (v11841 : BitVec 32) : Scf.Loop 32 :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let v11842 : BitVec 32 := Scalar.subi v11841 v1
  let c128_i32_5561 : BitVec 32 := 128#32
  let v11899 : BitVec 32 := Scalar.addi v11842 c128_i32_5561
  let c1_i32_5562 : BitVec 32 := 1#32
  let v11900 : BitVec 32 := Scalar.subi v11899 c1_i32_5562
  let c7_i32_5563 : BitVec 32 := 7#32
  let v11901 : BitVec 32 := Scalar.shrui v11900 c7_i32_5563
  let v11902 : BitVec 32 := Scalar.subi v11901 v11898
  let c1_i32_5565 : BitVec 32 := 1#32
  let v11904 : BitVec 32 := Scalar.divsi v11902 c1_i32_5565
  let v11905 : BitVec 32 := Scalar.muli v11904 c1_i32_5565
  let v11906 : BitVec 32 := Scalar.addi v11898 v11905
  let c1_i32_5566 : BitVec 32 := 1#32
  ⟨v11898, v11906, c1_i32_5566⟩

def k0_off8 (i : grid0.Coords) (v11836 : BitVec 32) (v11841 : BitVec 32) (k0_t2 : Fin (k0_t2_loop i v11836 v11841).trips) : Fin 2 → Nat :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let c1_i32_5566 : BitVec 32 := 1#32
  let arg30 : BitVec 32 := Scf.iv v11898 c1_i32_5566 k0_t2
  let c31_i32_5568 : BitVec 32 := 31#32
  let v11909 : BitVec 32 := Scalar.minsi arg30 c31_i32_5568
  let v11910 : Index := Scalar.indexCast v11909
  let c0_5569 : Index := 0#32
  ![v11910.toNat, 0]
def k0_mult4 (k0_t1 : Fin k0_t1_loop.trips) : BitVec 32 :=
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  v11919
def k0_off9 (k0_t1 : Fin k0_t1_loop.trips) : Fin 3 → Nat :=
  let c0_5572 : Index := 0#32
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  let v11920 : BitVec 32 := v11919
  let v11921 : Index := Scalar.indexCast v11920
  let c0_5573 : Index := 0#32
  ![0, v11921.toNat, 0]
def k0_off10 (k0_t1 : Fin k0_t1_loop.trips) : Fin 3 → Nat :=
  let c1_5576 : Index := 1#32
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  let v11920 : BitVec 32 := v11919
  let v11932 : Index := Scalar.indexCast v11920
  let c0_5577 : Index := 0#32
  ![1, v11932.toNat, 0]
def k0_mult5 (i : grid0.Coords) (v11836 : BitVec 32) (v11841 : BitVec 32) (k0_t2 : Fin (k0_t2_loop i v11836 v11841).trips) : BitVec 32 :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let c1_i32_5566 : BitVec 32 := 1#32
  let arg30 : BitVec 32 := Scf.iv v11898 c1_i32_5566 k0_t2
  let c31_i32_5568 : BitVec 32 := 31#32
  let v11909 : BitVec 32 := Scalar.minsi arg30 c31_i32_5568
  let c128_i32_5582 : BitVec 32 := 128#32
  let v11954 : BitVec 32 := Scalar.muli v11909 c128_i32_5582
  v11954
def k0_off11 (i : grid0.Coords) (v11836 : BitVec 32) (v11841 : BitVec 32) (k0_t2 : Fin (k0_t2_loop i v11836 v11841).trips) : Fin 2 → Nat :=
  let c0_5583 : Index := 0#32
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let c1_i32_5566 : BitVec 32 := 1#32
  let arg30 : BitVec 32 := Scf.iv v11898 c1_i32_5566 k0_t2
  let c31_i32_5568 : BitVec 32 := 31#32
  let v11909 : BitVec 32 := Scalar.minsi arg30 c31_i32_5568
  let c128_i32_5582 : BitVec 32 := 128#32
  let v11954 : BitVec 32 := Scalar.muli v11909 c128_i32_5582
  let v11955 : BitVec 32 := v11954
  let v11958 : Index := Scalar.indexCast v11955
  ![0, v11958.toNat]
@[reducible] def k0_t3_loop (i : grid0.Coords) (v11836 : BitVec 32) (v11841 : BitVec 32) : Scf.Loop 32 :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let v11842 : BitVec 32 := Scalar.subi v11841 v1
  let c128_i32_5561 : BitVec 32 := 128#32
  let v11899 : BitVec 32 := Scalar.addi v11842 c128_i32_5561
  let c1_i32_5562 : BitVec 32 := 1#32
  let v11900 : BitVec 32 := Scalar.subi v11899 c1_i32_5562
  let c7_i32_5563 : BitVec 32 := 7#32
  let v11901 : BitVec 32 := Scalar.shrui v11900 c7_i32_5563
  let v11902 : BitVec 32 := Scalar.subi v11901 v11898
  let c1_i32_5565 : BitVec 32 := 1#32
  let v11904 : BitVec 32 := Scalar.divsi v11902 c1_i32_5565
  let v11905 : BitVec 32 := Scalar.muli v11904 c1_i32_5565
  let v11906 : BitVec 32 := Scalar.addi v11898 v11905
  let v11903 : BitVec 32 := Scalar.addi v11898 v11902
  let c1_i32_5567 : BitVec 32 := 1#32
  ⟨v11906, v11903, c1_i32_5567⟩
def k0_off12 (i : grid0.Coords) (v11836 : BitVec 32) (v11841 : BitVec 32) (k0_t3 : Fin (k0_t3_loop i v11836 v11841).trips) : Fin 2 → Nat :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let v11842 : BitVec 32 := Scalar.subi v11841 v1
  let c128_i32_5561 : BitVec 32 := 128#32
  let v11899 : BitVec 32 := Scalar.addi v11842 c128_i32_5561
  let c1_i32_5562 : BitVec 32 := 1#32
  let v11900 : BitVec 32 := Scalar.subi v11899 c1_i32_5562
  let c7_i32_5563 : BitVec 32 := 7#32
  let v11901 : BitVec 32 := Scalar.shrui v11900 c7_i32_5563
  let v11902 : BitVec 32 := Scalar.subi v11901 v11898
  let c1_i32_5565 : BitVec 32 := 1#32
  let v11904 : BitVec 32 := Scalar.divsi v11902 c1_i32_5565
  let v11905 : BitVec 32 := Scalar.muli v11904 c1_i32_5565
  let v11906 : BitVec 32 := Scalar.addi v11898 v11905
  let c1_i32_5567 : BitVec 32 := 1#32
  let arg30 : BitVec 32 := Scf.iv v11906 c1_i32_5567 k0_t3
  let c31_i32_5568 : BitVec 32 := 31#32
  let v11909 : BitVec 32 := Scalar.minsi arg30 c31_i32_5568
  let v11910 : Index := Scalar.indexCast v11909
  let c0_5569 : Index := 0#32
  ![v11910.toNat, 0]
def k0_mult6 (k0_t1 : Fin k0_t1_loop.trips) : BitVec 32 :=
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  v11919
def k0_off13 (k0_t1 : Fin k0_t1_loop.trips) : Fin 3 → Nat :=
  let c0_5572 : Index := 0#32
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  let v11920 : BitVec 32 := v11919
  let v11921 : Index := Scalar.indexCast v11920
  let c0_5573 : Index := 0#32
  ![0, v11921.toNat, 0]
def k0_off14 (k0_t1 : Fin k0_t1_loop.trips) : Fin 3 → Nat :=
  let c1_5576 : Index := 1#32
  let c0_i32_5116 : BitVec 32 := 0#32
  let c1_i32 : BitVec 32 := 1#32
  let arg29 : BitVec 32 := Scf.iv c0_i32_5116 c1_i32 k0_t1
  let c16_i32_5571 : BitVec 32 := 16#32
  let v11919 : BitVec 32 := Scalar.muli arg29 c16_i32_5571
  let v11920 : BitVec 32 := v11919
  let v11932 : Index := Scalar.indexCast v11920
  let c0_5577 : Index := 0#32
  ![1, v11932.toNat, 0]
def k0_mult7 (i : grid0.Coords) (v11836 : BitVec 32) (v11841 : BitVec 32) (k0_t3 : Fin (k0_t3_loop i v11836 v11841).trips) : BitVec 32 :=
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let v11842 : BitVec 32 := Scalar.subi v11841 v1
  let c128_i32_5561 : BitVec 32 := 128#32
  let v11899 : BitVec 32 := Scalar.addi v11842 c128_i32_5561
  let c1_i32_5562 : BitVec 32 := 1#32
  let v11900 : BitVec 32 := Scalar.subi v11899 c1_i32_5562
  let c7_i32_5563 : BitVec 32 := 7#32
  let v11901 : BitVec 32 := Scalar.shrui v11900 c7_i32_5563
  let v11902 : BitVec 32 := Scalar.subi v11901 v11898
  let c1_i32_5565 : BitVec 32 := 1#32
  let v11904 : BitVec 32 := Scalar.divsi v11902 c1_i32_5565
  let v11905 : BitVec 32 := Scalar.muli v11904 c1_i32_5565
  let v11906 : BitVec 32 := Scalar.addi v11898 v11905
  let c1_i32_5567 : BitVec 32 := 1#32
  let arg30 : BitVec 32 := Scf.iv v11906 c1_i32_5567 k0_t3
  let c31_i32_5568 : BitVec 32 := 31#32
  let v11909 : BitVec 32 := Scalar.minsi arg30 c31_i32_5568
  let c128_i32_5582 : BitVec 32 := 128#32
  let v11954 : BitVec 32 := Scalar.muli v11909 c128_i32_5582
  v11954
def k0_off15 (i : grid0.Coords) (v11836 : BitVec 32) (v11841 : BitVec 32) (k0_t3 : Fin (k0_t3_loop i v11836 v11841).trips) : Fin 2 → Nat :=
  let c0_5583 : Index := 0#32
  let arg0 : BitVec 32 := BitVec.ofNat 32 (i 0).val
  let c4096_i32 : BitVec 32 := 4096#32
  let v1 : BitVec 32 := Scalar.muli arg0 c4096_i32
  let v11837 : BitVec 32 := Scalar.subi v11836 v1
  let c7_i32 : BitVec 32 := 7#32
  let v11843 : BitVec 32 := Scalar.shrui v11837 c7_i32
  let c1_i32_5560 : BitVec 32 := 1#32
  let v11898 : BitVec 32 := Scalar.addi v11843 c1_i32_5560
  let v11842 : BitVec 32 := Scalar.subi v11841 v1
  let c128_i32_5561 : BitVec 32 := 128#32
  let v11899 : BitVec 32 := Scalar.addi v11842 c128_i32_5561
  let c1_i32_5562 : BitVec 32 := 1#32
  let v11900 : BitVec 32 := Scalar.subi v11899 c1_i32_5562
  let c7_i32_5563 : BitVec 32 := 7#32
  let v11901 : BitVec 32 := Scalar.shrui v11900 c7_i32_5563
  let v11902 : BitVec 32 := Scalar.subi v11901 v11898
  let c1_i32_5565 : BitVec 32 := 1#32
  let v11904 : BitVec 32 := Scalar.divsi v11902 c1_i32_5565
  let v11905 : BitVec 32 := Scalar.muli v11904 c1_i32_5565
  let v11906 : BitVec 32 := Scalar.addi v11898 v11905
  let c1_i32_5567 : BitVec 32 := 1#32
  let arg30 : BitVec 32 := Scf.iv v11906 c1_i32_5567 k0_t3
  let c31_i32_5568 : BitVec 32 := 31#32
  let v11909 : BitVec 32 := Scalar.minsi arg30 c31_i32_5568
  let c128_i32_5582 : BitVec 32 := 128#32
  let v11954 : BitVec 32 := Scalar.muli v11909 c128_i32_5582
  let v11955 : BitVec 32 := v11954
  let v11958 : Index := Scalar.indexCast v11955
  ![0, v11958.toNat]

def k0_chk2 (i : grid0.Coords) (v11836 : BitVec 32) (v11841 : BitVec 32) : Prop :=
  ((k0_t2_loop i v11836 v11841).OK) ∧
  (∀ k0_t2 : Fin (k0_t2_loop i v11836 v11841).trips, ∀ a, (k0_off8 i v11836 v11841 k0_t2) a + S1x128.size a ≤ S32x128.size a) ∧
  (∀ k0_t2 : Fin (k0_t2_loop i v11836 v11841).trips, 128 ∣ (k0_mult5 i v11836 v11841 k0_t2).toNat) ∧
  (∀ k0_t2 : Fin (k0_t2_loop i v11836 v11841).trips, ∀ a, (k0_off11 i v11836 v11841 k0_t2) a + S12x128.size a ≤ S12x4096.size a) ∧
  ((k0_t3_loop i v11836 v11841).OK) ∧
  (∀ k0_t3 : Fin (k0_t3_loop i v11836 v11841).trips, ∀ a, (k0_off12 i v11836 v11841 k0_t3) a + S1x128.size a ≤ S32x128.size a) ∧
  (∀ k0_t3 : Fin (k0_t3_loop i v11836 v11841).trips, 128 ∣ (k0_mult7 i v11836 v11841 k0_t3).toNat) ∧
  (∀ k0_t3 : Fin (k0_t3_loop i v11836 v11841).trips, ∀ a, (k0_off15 i v11836 v11841 k0_t3) a + S12x128.size a ≤ S12x4096.size a)
theorem k0_t2_ok : ∀ (i : grid0.Coords) (v11836 : BitVec 32) (v11841 : BitVec 32) (k0_hw2 : k0_chk2 i v11836 v11841), (k0_t2_loop i v11836 v11841).OK := fun i v11836 v11841 k0_hw2 => k0_hw2.1
theorem k0_off8_inb : ∀ (i : grid0.Coords) (v11836 : BitVec 32) (v11841 : BitVec 32) (k0_hw2 : k0_chk2 i v11836 v11841) (k0_t2 : Fin (k0_t2_loop i v11836 v11841).trips), ∀ a, (k0_off8 i v11836 v11841 k0_t2) a + S1x128.size a ≤ S32x128.size a := fun i v11836 v11841 k0_hw2 k0_t2 => k0_hw2.2.1 k0_t2
theorem k0_mult5_dvd : ∀ (i : grid0.Coords) (v11836 : BitVec 32) (v11841 : BitVec 32) (k0_hw2 : k0_chk2 i v11836 v11841) (k0_t2 : Fin (k0_t2_loop i v11836 v11841).trips), 128 ∣ (k0_mult5 i v11836 v11841 k0_t2).toNat := fun i v11836 v11841 k0_hw2 k0_t2 => k0_hw2.2.2.1 k0_t2
theorem k0_off11_inb : ∀ (i : grid0.Coords) (v11836 : BitVec 32) (v11841 : BitVec 32) (k0_hw2 : k0_chk2 i v11836 v11841) (k0_t2 : Fin (k0_t2_loop i v11836 v11841).trips), ∀ a, (k0_off11 i v11836 v11841 k0_t2) a + S12x128.size a ≤ S12x4096.size a := fun i v11836 v11841 k0_hw2 k0_t2 => k0_hw2.2.2.2.1 k0_t2
theorem k0_t3_ok : ∀ (i : grid0.Coords) (v11836 : BitVec 32) (v11841 : BitVec 32) (k0_hw2 : k0_chk2 i v11836 v11841), (k0_t3_loop i v11836 v11841).OK := fun i v11836 v11841 k0_hw2 => k0_hw2.2.2.2.2.1
theorem k0_off12_inb : ∀ (i : grid0.Coords) (v11836 : BitVec 32) (v11841 : BitVec 32) (k0_hw2 : k0_chk2 i v11836 v11841) (k0_t3 : Fin (k0_t3_loop i v11836 v11841).trips), ∀ a, (k0_off12 i v11836 v11841 k0_t3) a + S1x128.size a ≤ S32x128.size a := fun i v11836 v11841 k0_hw2 k0_t3 => k0_hw2.2.2.2.2.2.1 k0_t3
theorem k0_mult7_dvd : ∀ (i : grid0.Coords) (v11836 : BitVec 32) (v11841 : BitVec 32) (k0_hw2 : k0_chk2 i v11836 v11841) (k0_t3 : Fin (k0_t3_loop i v11836 v11841).trips), 128 ∣ (k0_mult7 i v11836 v11841 k0_t3).toNat := fun i v11836 v11841 k0_hw2 k0_t3 => k0_hw2.2.2.2.2.2.2.1 k0_t3
theorem k0_off15_inb : ∀ (i : grid0.Coords) (v11836 : BitVec 32) (v11841 : BitVec 32) (k0_hw2 : k0_chk2 i v11836 v11841) (k0_t3 : Fin (k0_t3_loop i v11836 v11841).trips), ∀ a, (k0_off15 i v11836 v11841 k0_t3) a + S12x128.size a ≤ S12x4096.size a := fun i v11836 v11841 k0_hw2 k0_t3 => k0_hw2.2.2.2.2.2.2.2 k0_t3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1025 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x96x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x96x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1152 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S12x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S12x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Proof.KernelCases.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Cases

open Cert.KernelIdeal Cert.KernelIdeal.Gen

theorem hz : (![0, 0] : Fin 2 → Nat) = fun _ => 0 := funext fun a => by fin_cases a <;> rfl

variable (c : Dev nD) (i : grid0.Coords)
  (a1 : Memref sig .tc .vmem S1024x1152 .fp8e5m2) (h1 : a1.IsWhole) (a2 : Memref sig .tc .vmem S1x1024 .f32) (h2 : a2.IsWhole)
  (a3 : Memref sig .tc .vmem S256x1152 .fp8e4m3) (h3 : a3.IsWhole) (a4 : Memref sig .tc .vmem S1x256 .f32) (h4 : a4.IsWhole)
  (a5 : Memref sig .tc .vmem S1024x256 .fp8e4m3) (h5 : a5.IsWhole) (a6 : Memref sig .tc .vmem S1x1024 .f32) (h6 : a6.IsWhole)
  (a7 : Memref sig .tc .vmem S1024x256 .bf16) (h7 : a7.IsWhole) (a8 : Memref sig .tc .vmem S256x1152 .f32) (h8 : a8.IsWhole)
  (a9 : Memref sig .tc .vmem S1024x1152 .bf16) (h9 : a9.IsWhole) (a10 : Memref sig .tc .vmem S1024x128 .f32) (h10 : a10.IsWhole)
  (a11 : Memref sig .tc .vmem S1024x128 .bf16) (h11 : a11.IsWhole)
  (x0 : Vec Ideal S1024x1152 .fp8e5m2) (x1 : Vec Ideal S1x1024 .f32) (x2 : Vec Ideal S256x1152 .fp8e4m3)
  (x3 : Vec Ideal S1x256 .f32) (x4 : Vec Ideal S1024x256 .fp8e4m3) (x5 : Vec Ideal S1x1024 .f32)
  (s0 : Vec Ideal S1024x1152 .bf16) (s1 : Vec Ideal S1024x128 .f32) (s2 : Vec Ideal S1024x128 .bf16)

/-- The dequantised gradient at an index: the code there times the scale of its row. -/
def dbOf (d : FVec Ideal S1024x1152 .fp8e5m2) (ds : FVec Ideal S1x1024 .f32) : FVec Ideal S1024x1152 .bf16 :=
  fun j => (d j : EReal) * ds (ix2 0 (j 0))

/-- One column block of the first product: row `y 0` of the codes with row `y 1` of the weight block, times the row's scale
    (held 128 times along the lanes) and the column's scale. -/
def dxBlock (d : FVec Ideal S1024x1152 .fp8e5m2) (w : FVec Ideal S256x1152 .fp8e4m3) (ws : FVec Ideal S1x256 .f32)
    (sc : FVec Ideal S1024x128 .f32) : FVec Ideal S1024x256 .bf16 :=
  fun y => (∑ k : Fin 1152, (d (ix2 (y 0) k) : EReal) * w (ix2 (y 1) k))
    * (sc (ix2 (y 0) ⟨(y 1 : ℕ) % 128, Nat.mod_lt _ (by decide)⟩) * ws (ix2 0 (y 1)))

/-- One row block of the second product: column `y 0` of the scaled activation block with column `y 1` of the dequantised gradient. -/
def dwBlock (x : FVec Ideal S1024x256 .fp8e4m3) (db : FVec Ideal S1024x1152 .bf16) (xc : FVec Ideal S1024x128 .bf16) :
    FVec Ideal S256x1152 .f32 :=
  fun y => ∑ n : Fin 1024, ((x (ix2 n (y 0)) : EReal) * xc (ix2 n ⟨(y 0 : ℕ) % 128, Nat.mod_lt _ (by decide)⟩)) * db (ix2 n (y 1))

/-- The lanes' copies of a row scale, read at an index: the scale of the row. -/
theorem pay3_at (j : S1024x128.Idx) : k0_pay3 x1 j = x1 (ix2 0 (j 0)) := by
  pointwise [k0_pay3, k0_pay2]

/-- The lanes' copies of an activation scale, read at an index: the scale of the row. -/
theorem pay4_at (j : S1024x128.Idx) : k0_pay4 x5 j = x5 (ix2 0 (j 0)) := by
  pointwise [k0_pay4]

/-- The store of lanes 0 to 127 of a column block holds the block there. -/
theorem pay18_at (x : S1024x128.Idx) (y : S1024x256.Idx) (e0 : (y 0 : ℕ) = x 0) (e1 : (y 1 : ℕ) = x 1) :
    k0_pay18 x0 x2 x3 s1 x = dxBlock x0 x2 x3 s1 y := by
  have hx := (x 1).isLt
  pointwise [k0_pay18, k0_pay17, k0_pay16, dxBlock]
  blk_point []

/-- The store of lanes 128 to 255 of a column block holds the block there. -/
theorem pay19_at (x : S1024x128.Idx) (y : S1024x256.Idx) (e0 : (y 0 : ℕ) = x 0) (e1 : (y 1 : ℕ) = 128 + x 1) :
    k0_pay19 x0 x2 x3 s1 x = dxBlock x0 x2 x3 s1 y := by
  have hx := (x 1).isLt
  pointwise [k0_pay19, k0_pay17, k0_pay16, dxBlock]
  blk_point []

/-- The two stores of a column block together are the block. -/
theorem canon_dx (L : FVec Ideal S1024x256 .bf16)
    (hL : L = View.canon (Val := Elt Ideal) (e := .bf16) [⟨Rect.unit (s := S1024x256) ![0, 128] ![1024, 128] inb_S1024x256_S1024x128_0_128, k0_pay19 x0 x2 x3 s1⟩,
        ⟨Rect.unit (s := S1024x256) ![0, 0] ![1024, 128] inb_S1024x256_S1024x128_0_0, k0_pay18 x0 x2 x3 s1⟩]) :
    L = dxBlock x0 x2 x3 s1 := by
  subst hL
  funext y
  canon_tiles x e
  · exact pay19_at x0 x2 x3 s1 x y e0 e1
  · exact pay18_at x0 x2 x3 s1 x y e0 e1

/-- The store of a row block holds the block. -/
theorem pay1_eq :
    k0_pay1 (k0_pay20 (View.ld x4 (Rect.unit (s := S1024x256) ![0, 0] ![1024, 128] inb_S1024x256_S1024x128_0_0)) s2)
      (k0_pay21 (View.ld x4 (Rect.unit (s := S1024x256) ![0, 128] ![1024, 128] inb_S1024x256_S1024x128_0_128))) s2 s0 = dwBlock x4 s0 s2 := by
  funext y
  pointwise [k0_pay1, k0_pay20, k0_pay21, dwBlock]
  by_cases h : (y 0 : ℕ) < 128
  · simp only [dif_pos h]
    blk_point []
  · simp only [dif_neg h]
    blk_point []

/-- The nine stores of the gradient scratch together are the dequantised gradient. -/
theorem canon_db :
    View.canon (Val := Elt Ideal) (e := .bf16) [⟨Rect.unit (s := S1024x1152) ![0, 1024] ![1024, 128] inb_S1024x1152_S1024x128_0_1024,
            k0_pay15 (k0_pay2 x1) (View.ld x0 (Rect.unit (s := S1024x1152) ![0, 1024] ![1024, 128] inb_S1024x1152_S1024x128_0_1024))⟩,
          ⟨Rect.unit (s := S1024x1152) ![0, 896] ![1024, 128] inb_S1024x1152_S1024x128_0_896,
            k0_pay14
              (k0_pay13 (k0_pay2 x1) (View.ld x0 (Rect.unit (s := S1024x1152) ![0, 896] ![1024, 128] inb_S1024x1152_S1024x128_0_896)))⟩,
          ⟨Rect.unit (s := S1024x1152) ![0, 768] ![1024, 128] inb_S1024x1152_S1024x128_0_768,
            k0_pay12 (k0_pay2 x1) (View.ld x0 (Rect.unit (s := S1024x1152) ![0, 768] ![1024, 128] inb_S1024x1152_S1024x128_0_768))⟩,
          ⟨Rect.unit (s := S1024x1152) ![0, 640] ![1024, 128] inb_S1024x1152_S1024x128_0_640,
            k0_pay11 (k0_pay2 x1) (View.ld x0 (Rect.unit (s := S1024x1152) ![0, 640] ![1024, 128] inb_S1024x1152_S1024x128_0_640))⟩,
          ⟨Rect.unit (s := S1024x1152) ![0, 512] ![1024, 128] inb_S1024x1152_S1024x128_0_512,
            k0_pay10 (k0_pay2 x1) (View.ld x0 (Rect.unit (s := S1024x1152) ![0, 512] ![1024, 128] inb_S1024x1152_S1024x128_0_512))⟩,
          ⟨Rect.unit (s := S1024x1152) ![0, 384] ![1024, 128] inb_S1024x1152_S1024x128_0_384,
            k0_pay9 (k0_pay2 x1) (View.ld x0 (Rect.unit (s := S1024x1152) ![0, 384] ![1024, 128] inb_S1024x1152_S1024x128_0_384))⟩,
          ⟨Rect.unit (s := S1024x1152) ![0, 256] ![1024, 128] inb_S1024x1152_S1024x128_0_256,
            k0_pay8 (k0_pay7 x1 (View.ld x0 (Rect.unit (s := S1024x1152) ![0, 256] ![1024, 128] inb_S1024x1152_S1024x128_0_256)))⟩,
          ⟨Rect.unit (s := S1024x1152) ![0, 128] ![1024, 128] inb_S1024x1152_S1024x128_0_128,
            k0_pay6 x1 (View.ld x0 (Rect.unit (s := S1024x1152) ![0, 128] ![1024, 128] inb_S1024x1152_S1024x128_0_128))⟩,
          ⟨Rect.unit (s := S1024x1152) ![0, 0] ![1024, 128] inb_S1024x1152_S1024x128_0_0,
            k0_pay5 x1 (View.ld x0 (Rect.unit (s := S1024x1152) ![0, 0] ![1024, 128] inb_S1024x1152_S1024x128_0_0))⟩] = dbOf x0 x1 := by
  funext y
  canon_tiles x e
  all_goals
    pointwise [k0_pay15, k0_pay14, k0_pay13, k0_pay12, k0_pay11, k0_pay10, k0_pay9, k0_pay8, k0_pay7, k0_pay6, k0_pay5, k0_pay2, dbOf]
    blk_point []

/-- A load through a rectangle of what a list of stores left is the load of the stores' contents. -/
theorem readCov_ld (v : View sig .tc .vmem S1024x1152 .bf16) (L : List (View.Piece (Elt Ideal) S1024x1152 .bf16)) (r : Rect S1024x1152) :
    v.readCov L r.toLoadRect = View.ld (View.canon L) r :=
  View.readCov_eq_canon' v L r

/-- A later point leaves the column block over the carried row scales. -/
theorem out_B_6 (hc : ¬cond0_0 i) :
    out0_B_6 c i a1 h1 a2 h2 a3 h3 a4 h4 a5 h5 a6 h6 a7 h7 a8 h8 a9 h9 a10 h10 a11 h11 hc x0 x1 x2 x3 x4 x5 s0 s1 s2 = dxBlock x0 x2 x3 s1 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 s0 s1 s2)]
  unfold kernelRun0_B
  dsimp only
  sl_unfold_words
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]
  exact canon_dx x0 x2 x3 s1 _ rfl

/-- A later point leaves the row block over the carried gradient and activation scales. -/
theorem out_B_7 (hc : ¬cond0_0 i) :
    out0_B_7 c i a1 h1 a2 h2 a3 h3 a4 h4 a5 h5 a6 h6 a7 h7 a8 h8 a9 h9 a10 h10 a11 h11 hc x0 x1 x2 x3 x4 x5 s0 s1 s2 = dwBlock x4 s0 s2 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 s0 s1 s2)]
  unfold kernelRun0_B
  dsimp only
  sl_unfold_words
  rw [View.canon_unit_zero (S := S256x1152) hz]
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]
  exact pay1_eq x4 s0 s2

/-- The first point leaves the dequantised gradient in its scratch. -/
theorem sout_A_0 (hc : cond0_0 i) :
    sout0_A_0 c i a1 h1 a2 h2 a3 h3 a4 h4 a5 h5 a6 h6 a7 h7 a8 h8 a9 h9 a10 h10 a11 h11 hc x0 x1 x2 x3 x4 x5 = dbOf x0 x1 := by
  unfold sout0_A_0
  rw [View.read_writes_eq_canon _ _ _ (scover0_A_0 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]
  exact canon_db x0 x1

/-- The first point leaves the row scales, copied along the lanes, in their scratch. -/
theorem sout_A_1 (hc : cond0_0 i) :
    sout0_A_1 c i a1 h1 a2 h2 a3 h3 a4 h4 a5 h5 a6 h6 a7 h7 a8 h8 a9 h9 a10 h10 a11 h11 hc x0 x1 x2 x3 x4 x5 = k0_pay3 x1 := by
  unfold sout0_A_1
  rw [View.read_writes_eq_canon _ _ _ (scover0_A_1 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero (S := S1024x128) hz]
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]

/-- The first point leaves the activation scales, copied along the lanes, in their scratch. -/
theorem sout_A_2 (hc : cond0_0 i) :
    sout0_A_2 c i a1 h1 a2 h2 a3 h3 a4 h4 a5 h5 a6 h6 a7 h7 a8 h8 a9 h9 a10 h10 a11 h11 hc x0 x1 x2 x3 x4 x5 = k0_pay4 x5 := by
  unfold sout0_A_2
  rw [View.read_writes_eq_canon _ _ _ (scover0_A_2 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero (S := S1024x128) hz]
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]

/-- The first point leaves the column block over the row scales it has just copied. -/
theorem out_A_6 (hc : cond0_0 i) :
    out0_A_6 c i a1 h1 a2 h2 a3 h3 a4 h4 a5 h5 a6 h6 a7 h7 a8 h8 a9 h9 a10 h10 a11 h11 hc x0 x1 x2 x3 x4 x5 = dxBlock x0 x2 x3 (k0_pay3 x1) := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]
  simp only [View.readCov_unit_zero (S := S1024x128) _ hz]
  exact canon_dx x0 x2 x3 (k0_pay3 x1) _ rfl

/-- The first point leaves the row block over the gradient and the activation scales it has just stored. -/
theorem out_A_7 (hc : cond0_0 i) :
    out0_A_7 c i a1 h1 a2 h2 a3 h3 a4 h4 a5 h5 a6 h6 a7 h7 a8 h8 a9 h9 a10 h10 a11 h11 hc x0 x1 x2 x3 x4 x5 = dwBlock x4 (dbOf x0 x1) (k0_pay4 x5) := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero (S := S256x1152) hz]
  simp only [View.readAt_eq_ld, h1.read_unread, h2.read_unread, h3.read_unread, h4.read_unread, h5.read_unread, h6.read_unread,
    h9.read_unread, h10.read_unread, h11.read_unread, View.ld_unit_zero (S := S1024x1152) hz, View.ld_unit_zero (S := S1024x128) hz,
    View.ld_unit_zero (S := S256x1152) hz, View.ld_unit_zero (S := S1x256) hz, View.ld_unit_zero (S := S1x1024) hz]
  simp only [View.readCov_unit_zero (S := S1024x128) _ hz]
  rw [readCov_ld, View.ld_unit_zero (S := S1024x1152) hz, canon_db]
  exact pay1_eq x4 (dbOf x0 x1) (k0_pay4 x5)

end Cert.KernelIdeal.Cases
-- ==== Proof.Products.lean ====
/-
  The two products both programs compute, written once over the argument arrays: the gradient of the activations and the
  gradient of the weights, as functions of an index.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.Products

open Cert.KernelIdeal

/-- The gradient of the activations: row `j 0` of the gradient's codes with row `j 1` of the weights' codes, times the
    product of the two scales. -/
def dx (d : FVec Ideal S1024x1152 .fp8e5m2) (ds : FVec Ideal S1024 .f32) (w : FVec Ideal S4096x1152 .fp8e4m3)
    (ws : FVec Ideal S4096 .f32) : FVec Ideal S1024x4096 .bf16 :=
  fun j => (∑ k : Fin 1152, (d (ix2 (j 0) k) : EReal) * w (ix2 (j 1) k)) * (ds (ix1 (j 0)) * ws (ix1 (j 1)))

/-- The gradient of the weights: the sum over the rows of a scaled activation times a scaled gradient entry. -/
def dw (x : FVec Ideal S1024x4096 .fp8e4m3) (xs : FVec Ideal S1024 .f32) (d : FVec Ideal S1024x1152 .fp8e5m2)
    (ds : FVec Ideal S1024 .f32) : FVec Ideal S4096x1152 .f32 :=
  fun j => ∑ n : Fin 1024, ((x (ix2 n (j 0)) : EReal) * xs (ix1 n)) * ((d (ix2 n (j 1)) : EReal) * ds (ix1 n))

end Cert.Products
-- ==== Proof.KernelValue.lean ====
/-
  What the kernel's two result arrays hold after the whole grid, as functions of the argument arrays.
  The scratches are filled at the first point and never written again (`scratch`, by induction on the point), so every
  point's blocks are over the same dequantised gradient and scales (`outs`); the blocks tile the arrays (`final_dx`, `final_dw`).
-/
module

public import proofs.«01_k».proof.Proof.KernelCases
public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Cases

variable (m : (ℓ : Loc nD τ sig) → Buf (Elt Ideal) ℓ)

/-- The windows' block indices at every point. -/
theorem idx : ∀ t : Fin cfg0.N, win0_0.index t = ![0, 0] ∧ win0_1.index t = ![0, 0] ∧ win0_2.index t = ![t.val, 0]
    ∧ win0_3.index t = ![0, t.val] ∧ win0_4.index t = ![0, t.val] ∧ win0_5.index t = ![0, 0]
    ∧ win0_6.index t = ![0, t.val] ∧ win0_7.index t = ![t.val, 0] :=
  (by decide +kernel : ∀ t : Fin grid0.N, _)

/-- The gradient's codes are the same block, the whole array, at every point. -/
theorem iblk0 (c : Dev nD) (t : Fin cfg0.N) : iblk m c 0 t = m ((c : Thread nD τ).loc main_arg0) := by
  blk_ext! [iblk, V, idx t]

/-- The row scales' block at an index, at every point. -/
theorem iblk1 (c : Dev nD) (t : Fin cfg0.N) (y : S1x1024.Idx) :
    (show FVec Ideal S1x1024 .f32 from iblk m c 1 t) y
      = (show FVec Ideal S1024 .f32 from m ((c : Thread nD τ).loc main_arg1)) (ix1 (y 1)) := by
  blk_point [iblk, V, idx t]

/-- The activation scales' block at an index, at every point. -/
theorem iblk5 (c : Dev nD) (t : Fin cfg0.N) (y : S1x1024.Idx) :
    (show FVec Ideal S1x1024 .f32 from iblk m c 5 t) y
      = (show FVec Ideal S1024 .f32 from m ((c : Thread nD τ).loc main_arg5)) (ix1 (y 1)) := by
  blk_point [iblk, V, idx t]

/-- The row scales' block is the same at every two points. -/
theorem iblk1_eq (c : Dev nD) (t t' : Fin cfg0.N) : iblk m c 1 t = iblk m c 1 t' :=
  funext fun y => (iblk1 m c t y).trans (iblk1 m c t' y).symm

/-- The activation scales' block is the same at every two points. -/
theorem iblk5_eq (c : Dev nD) (t t' : Fin cfg0.N) : iblk m c 5 t = iblk m c 5 t' :=
  funext fun y => (iblk5 m c t y).trans (iblk5 m c t' y).symm

/-- What a point leaves: its two blocks over its own input blocks, and the three scratches. -/
abbrev leaves (c : Dev nD) (t : Fin cfg0.N) :
    Vec Ideal S1024x256 .bf16 × Vec Ideal S256x1152 .f32 × Vec Ideal S1024x1152 .bf16 × Vec Ideal S1024x128 .f32 × Vec Ideal S1024x128 .bf16 :=
  (dxBlock (iblk m c 0 t) (iblk m c 2 t) (iblk m c 3 t) (k0_pay3 (iblk m c 1 t)),
   dwBlock (iblk m c 4 t) (dbOf (iblk m c 0 t) (iblk m c 1 t)) (k0_pay4 (iblk m c 5 t)),
   dbOf (iblk m c 0 t) (iblk m c 1 t), k0_pay3 (iblk m c 1 t), k0_pay4 (iblk m c 5 t))

/-- What the buffers hold after each point: the first point fills the scratches, and every later one finds them as it left them. -/
theorem outs (c : Dev nD) : ∀ (n : ℕ) (h : n < cfg0.N), outsAt0 m c n h = leaves m c ⟨n, h⟩
  | 0, h => by
    rw [show outsAt0 m c 0 h = _ from outsAt0_A m c ⟨0, h⟩ rfl, out_A_6, out_A_7, sout_A_0, sout_A_1, sout_A_2]
  | n + 1, h => by
    have hN : cfg0.N = 16 := N_0
    have hB : ¬(⟨n + 1, h⟩ : Fin cfg0.N).val % 16 = 0 := by dsimp only; omega
    have ih := outs c n (Nat.lt_of_succ_lt h)
    rw [show outsAt0 m c (n + 1) h = _ from outsAt0_B m c ⟨n + 1, h⟩ hB, out_B_6, out_B_7]
    unfold sout0_B_0 sout0_B_1 sout0_B_2
    simp only [Nat.add_sub_cancel, ih]
    dsimp only [leaves]
    rw [iblk0 m c ⟨n + 1, h⟩, iblk0 m c ⟨n, _⟩, iblk1_eq m c ⟨n + 1, h⟩ ⟨n, Nat.lt_of_succ_lt h⟩,
      iblk5_eq m c ⟨n + 1, h⟩ ⟨n, Nat.lt_of_succ_lt h⟩]

/-- The first result array after the run. -/
theorem final_dx (c : Dev nD) : (dats m 0 c).arrAt 6 (cfgs 0).N
    = Products.dx (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6, outs]
  dsimp only [leaves]
  pointwise [dxBlock, Products.dx, pay3_at]
  blk_point [iblk, V, idx t]

/-- The second result array after the run. -/
theorem final_dw (c : Dev nD) : (dats m 0 c).arrAt 7 (cfgs 0).N
    = Products.dw (m ((c : Thread nD τ).loc main_arg4)) (m ((c : Thread nD τ).loc main_arg5)) (m ((c : Thread nD τ).loc main_arg0))
        (m ((c : Thread nD τ).loc main_arg1)) := by
  refine (dats m 0 c).arrAt_eq_of_covers 7 _ (by decide +kernel) fun t _ y => ?_
  blk_simp
  rw [after0_7, outs]
  dsimp only [leaves]
  pointwise [dwBlock, dbOf, Products.dw, pay4_at]
  blk_point [iblk, V, idx t]

end Cert.KernelIdeal.Arrays
-- ==== Proof.ReferenceValue.lean ====
/-
  What the reference's two result arrays hold after its one point, as functions of the argument arrays.
-/
module

public import proofs.«01_k».proof.Proof.Gen.ReferenceIdeal.Frame
public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.ReferenceIdeal.Arrays

open Cert.ReferenceIdeal Cert.ReferenceIdeal.Gen

variable (m : (ℓ : Loc nD τ sig) → Buf (Elt Ideal) ℓ)

/-- The windows' block indices. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The reference's first result array. -/
theorem final_dx (c : Dev nD) : (dats m 0 c).arrAt 6 (cfgs 0).N
    = Products.dx (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  frame_out
  pointwise [k0_pay2, k0_pay1, Products.dx]
  blk_point [iblk, V, idx t]

/-- The reference's second result array. -/
theorem final_dw (c : Dev nD) : (dats m 0 c).arrAt 7 (cfgs 0).N
    = Products.dw (m ((c : Thread nD τ).loc main_arg4)) (m ((c : Thread nD τ).loc main_arg5)) (m ((c : Thread nD τ).loc main_arg0))
        (m ((c : Thread nD τ).loc main_arg1)) := by
  refine (dats m 0 c).arrAt_eq_of_covers 7 _ (by decide +kernel) fun t _ y => ?_
  blk_simp
  rw [after0_7]
  frame_out
  pointwise [k0_pay3, k0_pay1, Products.dw]
  blk_point [iblk, V, idx t]

end Cert.ReferenceIdeal.Arrays
-- ==== Proof.GraphData.lean ====
module

public import proofs.«01_k».proof.Proof.Gen.Graph.Frame
public import Idealize.ShloMosaic.Lib.Claim

/-! What the graph call's buffers hold as the grid goes through: the inputs their blocks, the outputs anything. -/

@[expose] public section

set_option maxRecDepth 16384

noncomputable section

namespace Cert.Graph.Whole

open Cert.Graph Cert.Graph.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The five output windows: nothing is stated of what the kernel leaves in them. -/
def forgets : Fin 14 → Bool := fun w => decide (9 ≤ w.val)

/-- The results the operations after the call write. -/
def T0 : Finset (Ref sig .tc) := {main_v6, main_v7}

/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.unary_writes, StableHlo.reshape_writes, Finset.mem_singleton] at hb; cases Proc.devRef_injective _ hb; decide

/-- The call's data on one core: each input's array as the call finds it, its staging buffer at its block after every
    grid step; the outputs unnamed; two inputs that are one array hold a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

/-- The arrays are what the call finds. -/
theorem A_eq (c : Dev nD) (w : Fin cfg0.W) : (dats m 0 c).A w = V m c (Pipeline.arrRef spec0 w) := by
  dsimp only [dats]

/-! Each input's buffer after a grid step. -/

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]

/-! Each input's buffer before a grid step. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- From a run of the call, its arguments end as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 7 rfl).trans ((hA c 7).trans (V_main_arg4 m c)),
      (Pipeline.RDat.FramePostR.arr_in h c 8 rfl).trans ((hA c 8).trans (V_main_arg5 m c)),
      (Pipeline.RDat.FramePostR.arr_in h c 1 rfl).trans ((hA c 1).trans (V_main_arg6 m c)),
      ((h c).2 main_arg7 (Finset.mem_sdiff.mpr ⟨Pipeline.mem_restRefs_of main_arg7 (by decide) (by decide), by decide⟩)).trans (V_main_arg7 m c)⟩) h

set_option backward.isDefEq.respectTransparency.types false in
set_option maxHeartbeats 800000 in
/-- The whole call, given that the body does at every grid step what the data says: it ends, the arrays it reads are as
    they were and every counter is at zero. -/
theorem run (hbody : ∀ c : Dev nD, BodyObligation (dats (F := F) m 0 c) (defs₀ (F := F)) Variants.none () Set.univ forgets) :
    θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_forget_shared (Q' := _) cfgs (dats m) (0 : Fin 1) launch₀0 defs₀ Variants.none forgets T0 m ρ main
    (hbody := fun c => (hbody c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same with the arguments named. -/
theorem frame_of_body (hbody : ∀ c : Dev nD, BodyObligation (dats (F := F) m 0 c) (defs₀ (F := F)) Variants.none () Set.univ forgets) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (fun c => (dats m 0 c).toRForget forgets) (A_eq m) ((θ_run defs _ _).mono (fun _ h => h.1) (run m ρ hbody)))
    ((θ_run defs _ _).mono (fun _ h => h.2) (run m ρ hbody))

end Cert.Graph.Whole

end
-- ==== Proof.GraphWords.lean ====
/-
  The side conditions that the graph call's body assumes of the words it reads from the row-pointer array, proved for every
  word: the first edge block of a node, the last one, and the counted loops between them.
-/
module

public import proofs.«01_k».proof.Graph
public import Idealize.ShloMosaic.Lib.WordArith
public import Idealize.ShloMosaic.Lib.WordCmp
public import Idealize.ShloMosaic.Lib.LoopRemainder

@[expose] public section

namespace Cert.Graph.Words

open Idealize.ShloMosaic

/-- A word shifted right by seven places, zeros coming in, is below `2 ^ 25`. -/
theorem shr7 (x : BitVec 32) : (Scalar.shrui x 7#32).toNat < 2 ^ 25 := by
  have h : (Scalar.shrui x 7#32).toNat = x.toNat / 2 ^ 7 := by
    simp [Scalar.shrui, IntOp.shrui, Nat.shiftRight_eq_div_pow]
  have := x.isLt
  omega

/-- The smaller of a word that is not negative and 31 is at most 31. -/
theorem min31 (x : BitVec 32) (h : x.toNat < 2 ^ 31) : (Scalar.minsi x 31#32).toNat ≤ 31 := by
  have := WordArith.toNat_minsi_of_lt x 31#32 h (by decide)
  show (IntOp.minsi x 31#32).toNat ≤ 31
  rw [this]
  exact Nat.min_le_right _ _

/-- 128 times the smaller of a word that is not negative and 31. -/
theorem mul128 (x : BitVec 32) (h : x.toNat < 2 ^ 31) :
    (Scalar.muli (Scalar.minsi x 31#32) 128#32).toNat = (Scalar.minsi x 31#32).toNat * 128 := by
  have := min31 x h
  simp only [Scalar.muli, IntOp.muli, BitVec.toNat_mul, BitVec.toNat_ofNat]
  omega

/-- A row index at most 31 lies in the block of 32 edge rows. -/
theorem rowInb (x : BitVec 32) (h : x.toNat < 2 ^ 31) :
    ∀ a, (![(Scalar.indexCast (Scalar.minsi x 31#32)).toNat, 0] : Fin 2 → Nat) a + S1x128.size a ≤ S32x128.size a := by
  have := min31 x h
  intro a
  fin_cases a
  · show (Scalar.minsi x 31#32).toNat + 1 ≤ 32
    omega
  · show 0 + 128 ≤ 128
    omega

/-- 128 columns from 128 times such an index on lie among the 4096. -/
theorem colInb (x : BitVec 32) (h : x.toNat < 2 ^ 31) :
    ∀ a, (![0, (Scalar.indexCast (Scalar.muli (Scalar.minsi x 31#32) 128#32)).toNat] : Fin 2 → Nat) a + S12x128.size a
      ≤ S12x4096.size a := by
  have := min31 x h
  have e := mul128 x h
  intro a
  fin_cases a
  · show 0 + 12 ≤ 12
    omega
  · show (Scalar.muli (Scalar.minsi x 31#32) 128#32).toNat + 128 ≤ 4096
    omega

/-- The column is a multiple of 128. -/
theorem colDvd (x : BitVec 32) (h : x.toNat < 2 ^ 31) : 128 ∣ (Scalar.muli (Scalar.minsi x 31#32) 128#32).toNat := by
  rw [mul128 x h]
  exact Dvd.intro_left _ rfl

/-- The counted loop's upper bound, written with a division by one, is the other word's block number. -/
theorem upper (l q : BitVec 32) :
    Scalar.addi l (Scalar.muli (Scalar.divsi (Scalar.subi q l) 1#32) 1#32) = q := by
  rw [Scalar.muli_divsi_one]
  exact add_sub_cancel l q

/-- The block after a word's block, read as a number: signed and unsigned alike. -/
theorem lower (x : BitVec 32) : (Scalar.addi (Scalar.shrui x 7#32) 1#32).toNat = (Scalar.shrui x 7#32).toNat + 1 := by
  have := shr7 x
  simp only [Scalar.addi, IntOp.addi, BitVec.toNat_add, BitVec.toNat_ofNat]
  omega

/-- How many trips a loop by ones makes between two bounds that are not negative. -/
theorem trips_eq (l q : BitVec 32) (hl : l.toNat < 2 ^ 31) (hq : q.toNat < 2 ^ 31) :
    Scf.trips l q 1#32 = q.toNat - l.toNat := by
  have h1 : (1#32 : BitVec 32).toInt = 1 := by decide
  unfold Scf.trips
  rw [h1, WordCmp.toInt_eq_toNat_of_lt_half hl, WordCmp.toInt_eq_toNat_of_lt_half hq]
  omega

/-- A counted loop from the block after one word's to another word's block: its trip count does not overflow. -/
theorem loopOK (x y : BitVec 32) : Scf.OK (Scalar.addi (Scalar.shrui x 7#32) 1#32)
    (Scalar.addi (Scalar.addi (Scalar.shrui x 7#32) 1#32)
      (Scalar.muli (Scalar.divsi (Scalar.subi (Scalar.shrui y 7#32) (Scalar.addi (Scalar.shrui x 7#32) 1#32)) 1#32) 1#32)) 1#32 := by
  rw [upper]
  have hx := shr7 x
  have hy := shr7 y
  have hl := lower x
  have h1 : (1#32 : BitVec 32).toInt = 1 := by decide
  have hl' : (Scalar.addi (Scalar.shrui x 7#32) 1#32).toNat < 2 ^ 31 := by omega
  refine ⟨by rw [h1]; decide, ?_⟩
  rw [trips_eq _ _ hl' (by omega), h1, WordCmp.toInt_eq_toNat_of_lt_half hl']
  omega

/-- The block number of a trip of a loop by ones between two bounds below `2 ^ 25 + 1`. -/
theorem ivBound (l q : BitVec 32) (hl : l.toNat < 2 ^ 25 + 1) (hq : q.toNat < 2 ^ 25) (k : Nat) (hk : k < Scf.trips l q 1#32) :
    (Scf.iv l 1#32 k).toNat < 2 ^ 31 := by
  rw [trips_eq l q (by omega) (by omega)] at hk
  have e : Scf.iv l 1#32 k = l + BitVec.ofNat 32 k := by unfold Scf.iv; rw [BitVec.mul_one]
  rw [e, BitVec.toNat_add, BitVec.toNat_ofNat]
  omega

/-- Each of its trips is at a block whose number is not negative. -/
theorem ivLt (x y : BitVec 32) (k : Fin (Scf.trips (Scalar.addi (Scalar.shrui x 7#32) 1#32)
    (Scalar.addi (Scalar.addi (Scalar.shrui x 7#32) 1#32)
      (Scalar.muli (Scalar.divsi (Scalar.subi (Scalar.shrui y 7#32) (Scalar.addi (Scalar.shrui x 7#32) 1#32)) 1#32) 1#32)) 1#32)) :
    (Scf.iv (Scalar.addi (Scalar.shrui x 7#32) 1#32) 1#32 k.val).toNat < 2 ^ 31 :=
  ivBound _ _ (by rw [lower]; exact Nat.succ_lt_succ (shr7 x)) (shr7 y) k.val
    (lt_of_lt_of_eq k.isLt (congrArg (fun u => Scf.trips (Scalar.addi (Scalar.shrui x 7#32) 1#32) u 1#32) (upper _ _)))

/-- What the body assumes of a node's first word holds of every word. -/
theorem chk1 (i : grid0.Coords) (v : BitVec 32) : k0_chk1 i v :=
  have h (x : BitVec 32) : (Scalar.shrui x 7#32).toNat < 2 ^ 31 := lt_trans (shr7 x) (by decide)
  ⟨rowInb _ (h _), colDvd _ (h _), colInb _ (h _)⟩

/-- What the body assumes of a node's two words holds of every two words. -/
theorem chk2 (i : grid0.Coords) (v w : BitVec 32) : k0_chk2 i v w :=
  ⟨loopOK _ _, fun k => rowInb _ (ivLt _ _ k), fun k => colDvd _ (ivLt _ _ k), fun k => colInb _ (ivLt _ _ k),
    Scf.rem_ok _ _, fun k => (Scf.rem_no_trip _ _ k).elim, fun k => (Scf.rem_no_trip _ _ k).elim,
    fun k => (Scf.rem_no_trip _ _ k).elim⟩

end Cert.Graph.Words

end
-- ==== Proof.GraphLoops.lean ====
module

public import proofs.«01_k».proof.Proof.Gen.Graph.Loops
public import proofs.«01_k».proof.Proof.Gen.Graph.Frame
public import proofs.«01_k».proof.Proof.GraphWords
public import Idealize.ShloMosaic.Lib.LoopRemainder

/-! The two nested loops of the graph kernel's body, run once each at a symbolic trip: what they write stays inside the
source logits' gradient, and the words they read never matter. -/

@[expose] public section

set_option maxRecDepth 16384
set_option maxHeartbeats 4000000

noncomputable section

namespace Cert.Graph.Loops

open Cert.Graph Cert.Graph.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

section
variable (c : Dev nD) (i : grid0.Coords) (arg1 : Memref sig .tc .smem S1025 .i32) (harg1 : arg1.IsWhole) (arg2 : Memref sig .tc .vmem S1024 .i32) (harg2 : arg2.IsWhole) (arg3 : Memref sig .tc .vmem S32x128 .i32) (harg3 : arg3.IsWhole) (arg4 : Memref sig .tc .vmem S12x96x256 .fp8e4m3) (harg4 : arg4.IsWhole) (arg5 : Memref sig .tc .vmem S12x96x256 .fp8e5m2) (harg5 : arg5.IsWhole) (arg6 : Memref sig .tc .vmem S12x256 .f32) (harg6 : arg6.IsWhole) (arg7 : Memref sig .tc .vmem S12x256 .f32) (harg7 : arg7.IsWhole) (arg8 : Memref sig .tc .vmem S12x96 .f32) (harg8 : arg8.IsWhole) (arg9 : Memref sig .tc .vmem S12x96 .f32) (harg9 : arg9.IsWhole) (arg10 : Memref sig .tc .vmem S256x1152 .fp8e5m2) (harg10 : arg10.IsWhole) (arg11 : Memref sig .tc .vmem S1x256 .f32) (harg11 : arg11.IsWhole) (arg12 : Memref sig .tc .vmem S12x4096 .f32) (harg12 : arg12.IsWhole) (arg13 : Memref sig .tc .vmem S12x96 .f32) (harg13 : arg13.IsWhole) (arg14 : Memref sig .tc .vmem S12x96 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S256x16 .f32) (harg19 : arg19.IsWhole) (arg20 : Memref sig .tc .vmem S256x16 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S3x256x256 .bf16) (harg23 : arg23.IsWhole) (arg24 : Memref sig .tc .vmem S256x256 .f32) (harg24 : arg24.IsWhole) (arg25 : Memref sig .tc .vmem S2x4096x128 .f32) (harg25 : arg25.IsWhole) (arg26 : Memref sig .tc .vmem S256x16 .f32) (harg26 : arg26.IsWhole) (arg27 : Memref sig .tc .vmem S16x256 .f32) (harg27 : arg27.IsWhole) (arg28 : Memref sig .tc .vmem S1152x256 .f32) (harg28 : arg28.IsWhole)

set_option warn.classDefReducibility false in
/-- The inner loop, over the blocks of a node's edges after its first: every trip reads the indices and the features and
    writes into the source logits' gradient. -/
@[sl_loop] def loopInv2 (E : Set ℕ) (v0 : BitVec 32) (v1 : BitVec 32) (v10004 : FVec F S96x256 .bf16) (v10780 : FVec F S1x256 .f32)
    (v10808 : IVec S16x128 32) (k0_t1 : Fin k0_t1_loop.trips) (arg29 : BitVec 32) (v11836 : Elt F .i32) (v11837 : BitVec 32)
    (v11841 : Elt F .i32) (k0_hw2 : k0_chk2 i v11836 v11841) (v11842 : BitVec 32) (v11898 : BitVec 32) (init : BitVec 32)
    (f3 : Buf (Elt F) (arg3.view.loc (c : Thread nD τ))) (f25 : Buf (Elt F) (arg25.view.loc (c : Thread nD τ))) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v1 v10004 v10780 v10808 k0_t1 arg29 v11836 v11837 v11841 k0_hw2 v11842 v11898 init where
  inv _ _ := iprop((arg3.view.loc (c : Thread nD τ) ↦[arg3.view.set]{fullShare} f3)
    ∗ (arg25.view.loc (c : Thread nD τ) ↦[arg25.view.set]{fullShare} f25)
    ∗ (∃ f, arg12.view.loc (c : Thread nD τ) ↦[arg12.view.set]{fullShare} f))
  step k acc := by
    unfold k0_t2_body
    iintro ⟨H3, H25, ⟨%f, H12⟩⟩
    sl_exec
    sl_step
    isplitl [H3]; · iexact H3
    isplitl [H25]; · iexact H25
    iexists _; iexact H12

set_option warn.classDefReducibility false in
/-- The outer loop, over the nodes of a grid step: a trip reads the node's two bounds and runs over its edges. -/
@[sl_loop] def loopInv1 (E : Set ℕ) (v0 : BitVec 32) (v1 : BitVec 32) (v10004 : FVec F S96x256 .bf16) (v10780 : FVec F S1x256 .f32)
    (v10808 : IVec S16x128 32) (f1 : Buf (Elt F) (arg1.view.loc (c : Thread nD τ)))
    (f3 : Buf (Elt F) (arg3.view.loc (c : Thread nD τ))) (f25 : Buf (Elt F) (arg25.view.loc (c : Thread nD τ))) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v1 v10004 v10780 v10808 where
  inv _ _ := iprop((arg1.view.loc (c : Thread nD τ) ↦[arg1.view.set]{fullShare} f1)
    ∗ (arg3.view.loc (c : Thread nD τ) ↦[arg3.view.set]{fullShare} f3)
    ∗ (arg25.view.loc (c : Thread nD τ) ↦[arg25.view.set]{fullShare} f25)
    ∗ (∃ f, arg12.view.loc (c : Thread nD τ) ↦[arg12.view.set]{fullShare} f))
  step k acc := by
    unfold k0_t1_body
    iintro ⟨H1, H3, H25, ⟨%f, H12⟩⟩
    sl_exec (disch := first | exact Words.chk1 _ _ | exact Words.chk2 _ _ _)
    sl_step
    isplitl [H1]; · iexact H1
    isplitl [H3]; · iexact H3
    isplitl [H25]; · iexact H25
    iexists _; iexact H12

end

end Cert.Graph.Loops

end
-- ==== Proof.GraphRun.lean ====
module

public import proofs.«01_k».proof.Proof.GraphLoops

/-! The graph kernel's body run once, at symbolic staging buffers and a symbolic grid point. -/

@[expose] public section

set_option maxRecDepth 16384

noncomputable section

namespace Cert.Graph.Run

open Cert.Graph Cert.Graph.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- The body's triple: with the nine inputs at their contents and the five outputs and the scratch buffers at anything,
    the body runs to its end, the inputs as they were and the other buffers at some contents. -/
theorem bodyRun (c : Dev nD) (i : grid0.Coords) (arg1 : Memref sig .tc .smem S1025 .i32) (harg1 : arg1.IsWhole) (arg2 : Memref sig .tc .vmem S1024 .i32) (harg2 : arg2.IsWhole) (arg3 : Memref sig .tc .vmem S32x128 .i32) (harg3 : arg3.IsWhole) (arg4 : Memref sig .tc .vmem S12x96x256 .fp8e4m3) (harg4 : arg4.IsWhole) (arg5 : Memref sig .tc .vmem S12x96x256 .fp8e5m2) (harg5 : arg5.IsWhole) (arg6 : Memref sig .tc .vmem S12x256 .f32) (harg6 : arg6.IsWhole) (arg7 : Memref sig .tc .vmem S12x256 .f32) (harg7 : arg7.IsWhole) (arg8 : Memref sig .tc .vmem S12x96 .f32) (harg8 : arg8.IsWhole) (arg9 : Memref sig .tc .vmem S12x96 .f32) (harg9 : arg9.IsWhole) (arg10 : Memref sig .tc .vmem S256x1152 .fp8e5m2) (harg10 : arg10.IsWhole) (arg11 : Memref sig .tc .vmem S1x256 .f32) (harg11 : arg11.IsWhole) (arg12 : Memref sig .tc .vmem S12x4096 .f32) (harg12 : arg12.IsWhole) (arg13 : Memref sig .tc .vmem S12x96 .f32) (harg13 : arg13.IsWhole) (arg14 : Memref sig .tc .vmem S12x96 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S256x16 .f32) (harg19 : arg19.IsWhole) (arg20 : Memref sig .tc .vmem S256x16 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S3x256x256 .bf16) (harg23 : arg23.IsWhole) (arg24 : Memref sig .tc .vmem S256x256 .f32) (harg24 : arg24.IsWhole) (arg25 : Memref sig .tc .vmem S2x4096x128 .f32) (harg25 : arg25.IsWhole) (arg26 : Memref sig .tc .vmem S256x16 .f32) (harg26 : arg26.IsWhole) (arg27 : Memref sig .tc .vmem S16x256 .f32) (harg27 : arg27.IsWhole) (arg28 : Memref sig .tc .vmem S1152x256 .f32) (harg28 : arg28.IsWhole)
    (x0 : Vec F S1025 .i32) (x1 : Vec F S1024 .i32) (x2 : Vec F S32x128 .i32) (x3 : Vec F S12x96x256 .fp8e4m3) (x4 : Vec F S12x96x256 .fp8e5m2) (x5 : Vec F S12x256 .f32) (x6 : Vec F S12x256 .f32) (x7 : Vec F S12x96 .f32) (x8 : Vec F S12x96 .f32)
    (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (∃ d, owns (c : Thread nD τ) arg28 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (∃ d, owns (c : Thread nD τ) arg28 fullShare d)) -∗ K ⟨⟩))
      ⊢ wp frame (wpE (defs₀ (F := F)) Variants.none c none) E (cc0_gat_graph i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec_parts! (disch := first | exact Words.chk1 _ _ | exact Words.chk2 _ _ _)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  iexists _, _; isplitr; swap; · iexact H28
  ipureintro; rfl

end Cert.Graph.Run

end
-- ==== Proof.GraphFrame.lean ====
module

public import proofs.«01_k».proof.Proof.GraphData
public import proofs.«01_k».proof.Proof.GraphRun

/-! The whole graph call: at every grid step the body's run applies, so the call ends with its arguments as they were. -/

@[expose] public section

set_option maxRecDepth 16384

noncomputable section

namespace Cert.Graph.Whole

open Cert.Graph Cert.Graph.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! Each window's staging buffer at a grid step. -/

abbrev st0 (t : Fin cfg0.N) : Memref sig .tc .smem S1025 .i32 := win0_0.stage (cfg0.slots t 0)
abbrev st1 (t : Fin cfg0.N) : Memref sig .tc .vmem S1024 .i32 := win0_1.stage (cfg0.slots t 1)
abbrev st2 (t : Fin cfg0.N) : Memref sig .tc .vmem S32x128 .i32 := win0_2.stage (cfg0.slots t 2)
abbrev st3 (t : Fin cfg0.N) : Memref sig .tc .vmem S12x96x256 .fp8e4m3 := win0_3.stage (cfg0.slots t 3)
abbrev st4 (t : Fin cfg0.N) : Memref sig .tc .vmem S12x96x256 .fp8e5m2 := win0_4.stage (cfg0.slots t 4)
abbrev st5 (t : Fin cfg0.N) : Memref sig .tc .vmem S12x256 .f32 := win0_5.stage (cfg0.slots t 5)
abbrev st6 (t : Fin cfg0.N) : Memref sig .tc .vmem S12x256 .f32 := win0_6.stage (cfg0.slots t 6)
abbrev st7 (t : Fin cfg0.N) : Memref sig .tc .vmem S12x96 .f32 := win0_7.stage (cfg0.slots t 7)
abbrev st8 (t : Fin cfg0.N) : Memref sig .tc .vmem S12x96 .f32 := win0_8.stage (cfg0.slots t 8)
abbrev st9 (t : Fin cfg0.N) : Memref sig .tc .vmem S256x1152 .fp8e5m2 := win0_9.stage (cfg0.slots t 9)
abbrev st10 (t : Fin cfg0.N) : Memref sig .tc .vmem S1x256 .f32 := win0_10.stage (cfg0.slots t 10)
abbrev st11 (t : Fin cfg0.N) : Memref sig .tc .vmem S12x4096 .f32 := win0_11.stage (cfg0.slots t 11)
abbrev st12 (t : Fin cfg0.N) : Memref sig .tc .vmem S12x96 .f32 := win0_12.stage (cfg0.slots t 12)
abbrev st13 (t : Fin cfg0.N) : Memref sig .tc .vmem S12x96 .f32 := win0_13.stage (cfg0.slots t 13)

/-! The scratch buffers. -/

abbrev sc0 : Memref sig .tc .vmem S256x256 .f32 := Memref.whole cc0_scratch0
abbrev sc1 : Memref sig .tc .vmem S256x256 .f32 := Memref.whole cc0_scratch1
abbrev sc2 : Memref sig .tc .vmem S16x256 .f32 := Memref.whole cc0_scratch2
abbrev sc3 : Memref sig .tc .vmem S16x256 .f32 := Memref.whole cc0_scratch3
abbrev sc4 : Memref sig .tc .vmem S256x16 .f32 := Memref.whole cc0_scratch4
abbrev sc5 : Memref sig .tc .vmem S256x16 .f32 := Memref.whole cc0_scratch5
abbrev sc6 : Memref sig .tc .vmem S256x256 .f32 := Memref.whole cc0_scratch6
abbrev sc7 : Memref sig .tc .vmem S256x256 .f32 := Memref.whole cc0_scratch7
abbrev sc8 : Memref sig .tc .vmem S3x256x256 .bf16 := Memref.whole cc0_scratch8
abbrev sc9 : Memref sig .tc .vmem S256x256 .f32 := Memref.whole cc0_scratch9
abbrev sc10 : Memref sig .tc .vmem S2x4096x128 .f32 := Memref.whole cc0_scratch10
abbrev sc11 : Memref sig .tc .vmem S256x16 .f32 := Memref.whole cc0_scratch11
abbrev sc12 : Memref sig .tc .vmem S16x256 .f32 := Memref.whole cc0_scratch12
abbrev sc13 : Memref sig .tc .vmem S1152x256 .f32 := Memref.whole cc0_scratch13

/-- The scratch buffers, each owned at some contents. -/
theorem scratch_eq (c : Dev nD) :
    (Pipeline.ΦA spec0 c : sProp 𝕄)
      = iprop(iprop((∃ d, owns (c : Thread nD τ) sc0 fullShare d)
        ∗ (∃ d, owns (c : Thread nD τ) sc1 fullShare d)
        ∗ (∃ d, owns (c : Thread nD τ) sc2 fullShare d)
        ∗ (∃ d, owns (c : Thread nD τ) sc3 fullShare d)
        ∗ (∃ d, owns (c : Thread nD τ) sc4 fullShare d)
        ∗ (∃ d, owns (c : Thread nD τ) sc5 fullShare d)
        ∗ (∃ d, owns (c : Thread nD τ) sc6 fullShare d)
        ∗ (∃ d, owns (c : Thread nD τ) sc7 fullShare d)
        ∗ (∃ d, owns (c : Thread nD τ) sc8 fullShare d)
        ∗ (∃ d, owns (c : Thread nD τ) sc9 fullShare d)
        ∗ (∃ d, owns (c : Thread nD τ) sc10 fullShare d)
        ∗ (∃ d, owns (c : Thread nD τ) sc11 fullShare d)
        ∗ (∃ d, owns (c : Thread nD τ) sc12 fullShare d)
        ∗ (∃ d, owns (c : Thread nD τ) sc13 fullShare d)) ∗ (∃ r, prngReg c r)) := by
  unfold Pipeline.ΦA; rw [scopedRest0_eq]; simp only [sc0, sc1, sc2, sc3, sc4, sc5, sc6, sc7, sc8, sc9, sc10, sc11, sc12, sc13, owns_whole]; rfl

/-- What the body is called with at a grid step, window by window. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d))

/-- What it gives back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d))

set_option maxHeartbeats 1000000 in
/-- The body at any grid step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, scratch_eq]
  iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (Run.bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's row of the call table is the body. -/
theorem defs₀_row (t : Fin cfg0.N) :
    defs₀ (F := F) .tc cfg0.body (cfg0.bodyArgs t (cfg0.slots t)) = bodyAt0 t := by
  unfold defs₀; rw [Defs.onTc_tc]

/-- The body does at every grid step what the call's data says. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- The graph call, from any memory: it ends, its eight arguments are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame_of_body m ρ (body_obligation m)

end Cert.Graph.Whole

end
-- ==== Proof.lean ====
/-
  The certificate of the two matrix products of the attention layer's backward pass (the statement): the kernel and both
  idealized programs run and end quiescent, and at the ideal instance the kernel's two result arrays are the reference's.
  Beside them the layer's graph call, whole: it runs, ends quiescent and leaves its arguments as they were.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import proofs.«01_k».proof.Proof.GraphFrame
public import Idealize.ShloMosaic.Adequacy
public import Idealize.ShloMosaic.Init

@[expose] public section

noncomputable section

namespace Cert.Proof

open Idealize.ShloMosaic Idealize.ShloMosaic.TcCoe Idealize.SL.Sem

/-- The kernel's two result arrays and the reference's, from memories that agree on the arguments, are the same functions of
    the arguments: the gradient of the activations and the gradient of the weights (`Cert.Products.dx`, `Cert.Products.dw`). -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.Products.dx (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Products.dw (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.KernelIdeal.Arrays.final_dx m c),
      (h c).2.1.trans (Cert.KernelIdeal.Arrays.final_dw m c), (h c).2.2⟩) (Cert.KernelIdeal.Value.run_blocks m g),
    (θ_run _ _ _).mono (fun _ h c => ⟨(h c).1.trans ((Cert.ReferenceIdeal.Arrays.final_dx m' c).trans
        (by rw [(hag c).1, (hag c).2.1, (hag c).2.2.1, (hag c).2.2.2.1])),
      (h c).2.1.trans ((Cert.ReferenceIdeal.Arrays.final_dw m' c).trans
        (by rw [(hag c).1, (hag c).2.1, (hag c).2.2.2.2.1, (hag c).2.2.2.2.2])), (h c).2.2⟩)
      (Cert.ReferenceIdeal.Value.run_blocks m' g')⟩

/-- The whole claim. -/
theorem claim : Cert.Claim :=
  ⟨Cert.Kernel.Gen.facts, Cert.KernelIdeal.Gen.facts, Cert.ReferenceIdeal.Gen.facts, Cert.Graph.Gen.facts,
    fun m g _ => Cert.Kernel.Gen.frame m g, fun m g _ => Cert.KernelIdeal.Gen.frame m g,
    fun m g _ => Cert.ReferenceIdeal.Gen.frame m g, fun m g _ => Cert.Graph.Whole.frame m g, trivial, algebraic⟩

end Cert.Proof

end
